-- ==== Defs.lean ====
def Pre_Kernel (m : (ℓ : Loc Cert.Kernel.nD Cert.Kernel.τ Cert.Kernel.sig) → Buf (Elt Bits) ℓ) : Prop :=
  True

def Pre_Kernel_nearest_is_unique [hPre_nearest_is_unique : Cert.Pre_nearest_is_unique.Facts] (m : (ℓ : Loc Cert.Kernel.nD Cert.Kernel.τ Cert.Kernel.sig) → Buf (Elt Bits) ℓ) : Prop :=
  ∀ c : Dev Cert.Kernel.nD,
    (Cert.Pre_nearest_is_unique.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_nearest_is_unique : Cert.Pre_nearest_is_unique.Facts] (m : (ℓ : Loc Cert.KernelIdeal.nD Cert.KernelIdeal.τ Cert.KernelIdeal.sig) → Buf (Elt Ideal) ℓ) : Prop :=
  ∀ c : Dev Cert.KernelIdeal.nD,
    (Cert.Pre_nearest_is_unique.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nearest_is_unique [hPre_nearest_is_unique : Cert.Pre_nearest_is_unique.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nearest_is_unique.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_Kernel_pre_nearest_is_unique [hKernel : Cert.Kernel.Facts] [hPre_nearest_is_unique : Cert.Pre_nearest_is_unique.Facts] : Prop :=
  ∀ (m : (ℓ : Loc Cert.Kernel.nD Cert.Kernel.τ Cert.Kernel.sig) → Buf (Elt Bits) ℓ) (g : Dev Cert.Kernel.nD → PrngReg), Pre_Kernel_nearest_is_unique m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_nearest_is_unique : Cert.Pre_nearest_is_unique.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_nearest_is_unique [hReferenceIdeal : Cert.ReferenceIdeal.Facts] [hPre_nearest_is_unique : Cert.Pre_nearest_is_unique.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nearest_is_unique m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_nearest_is_unique : Cert.Pre_nearest_is_unique.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_c)) (v2 : (c : Dev Cert.KernelIdeal.nD) → Buf (Elt Ideal) ((c.tc : Thread Cert.KernelIdeal.nD Cert.KernelIdeal.τ).loc Cert.KernelIdeal.main_c_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_c) = v1 c
          ∧ r.2.mem ((c.tc : Thread Cert.KernelIdeal.nD Cert.KernelIdeal.τ).loc Cert.KernelIdeal.main_c_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_c) = v1 c
          ∧ r.2.mem ((c.tc : Thread Cert.ReferenceIdeal.nD Cert.ReferenceIdeal.τ).loc Cert.ReferenceIdeal.main_c_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_nearest_is_unique : Cert.Pre_nearest_is_unique.Facts),
    quiescent_Kernel (hKernel := hKernel)
    ∧ quiescent_Kernel_pre_nearest_is_unique (hKernel := hKernel) (hPre_nearest_is_unique := hPre_nearest_is_unique)
    ∧ quiescent_KernelIdeal (hKernelIdeal := hKernelIdeal) (hPre_nearest_is_unique := hPre_nearest_is_unique)
    ∧ quiescent_ReferenceIdeal (hReferenceIdeal := hReferenceIdeal)
    ∧ quiescent_ReferenceIdeal_pre_nearest_is_unique (hReferenceIdeal := hReferenceIdeal) (hPre_nearest_is_unique := hPre_nearest_is_unique)
    ∧ preserves_Kernel_KernelIdeal
    ∧ algebraic_KernelIdeal_ReferenceIdeal (hKernelIdeal := hKernelIdeal) (hReferenceIdeal := hReferenceIdeal) (hPre_nearest_is_unique := hPre_nearest_is_unique)
-- ==== Pre_nearest_is_unique.lean ====
abbrev S8x3x512x512 : Shape := ⟨4, ![8, 3, 512, 512]⟩
abbrev S768x32 : Shape := ⟨2, ![768, 32]⟩
abbrev S8192x32 : Shape := ⟨2, ![8192, 32]⟩
abbrev S8x3x32x16x32x16 : Shape := ⟨6, ![8, 3, 32, 16, 32, 16]⟩
abbrev S8x32x32x3x16x16 : Shape := ⟨6, ![8, 32, 32, 3, 16, 16]⟩
abbrev S8x1024x768 : Shape := ⟨3, ![8, 1024, 768]⟩
abbrev S8x1024x32 : Shape := ⟨3, ![8, 1024, 32]⟩
abbrev S_ : Shape := ⟨0, ![]⟩
abbrev S8x1024 : Shape := ⟨2, ![8, 1024]⟩
abbrev S8x1024x1 : Shape := ⟨3, ![8, 1024, 1]⟩
abbrev S8192 : Shape := ⟨1, ![8192]⟩
abbrev S32x8192 : Shape := ⟨2, ![32, 8192]⟩
abbrev S8x1024x8192 : Shape := ⟨3, ![8, 1024, 8192]⟩
abbrev S1x1x8192 : Shape := ⟨3, ![1, 1, 8192]⟩

class Facts : Prop where
  shapeCasts_S8x3x512x512_S8x3x32x16x32x16 : S8x3x512x512.ShapeCasts S8x3x32x16x32x16
  transposes_S8x3x32x16x32x16_S8x32x32x3x16x16_0_2_4_1_3_5 : S8x3x32x16x32x16.Transposes [0, 2, 4, 1, 3, 5] S8x32x32x3x16x16
  shapeCasts_S8x32x32x3x16x16_S8x1024x768 : S8x32x32x3x16x16.ShapeCasts S8x1024x768
  reducesTo_S8x1024x32_S8x1024_d2 : S8x1024x32.ReducesTo [2] S8x1024
  h_S_ : 0 < S_.numel
  bcast_S8x1024_S8x1024x1_0_1 : S8x1024.BroadcastsInDim S8x1024x1 (![0, 1] : Fin 2 → Fin S8x1024x1.rank)
  reducesTo_S8192x32_S8192_d1 : S8192x32.ReducesTo [1] S8192
  transposes_S8192x32_S32x8192_1_0 : S8192x32.Transposes [1, 0] S32x8192
  bcast_S_S8x1024x8192 : S_.BroadcastsInDim S8x1024x8192 (![] : Fin 0 → Fin S8x1024x8192.rank)
  bcast_S8x1024x1_S8x1024x8192_0_1_2 : S8x1024x1.BroadcastsInDim S8x1024x8192 (![0, 1, 2] : Fin 3 → Fin S8x1024x8192.rank)
  bcast_S8192_S1x1x8192_2 : S8192.BroadcastsInDim S1x1x8192 (![2] : Fin 1 → Fin S1x1x8192.rank)
  bcast_S1x1x8192_S8x1024x8192_0_1_2 : S1x1x8192.BroadcastsInDim S8x1024x8192 (![0, 1, 2] : Fin 3 → Fin S8x1024x8192.rank)
  reducesTo_S8x1024x8192_S8x1024_d2 : S8x1024x8192.ReducesTo [2] S8x1024
  natLt_1_32 : 1 < 32
  bcast_S_S8x1024 : S_.BroadcastsInDim S8x1024 (![] : Fin 0 → Fin S8x1024.rank)
  dot_S8x1024x768_S768x32_S8x1024x32_2_0_01_1_n_n_wf : DotDims.WF S8x1024x768 S768x32 S8x1024x32 [2] [0] [0, 1] [1] [] []
  dot_S8x1024x32_S32x8192_S8x1024x8192_2_0_01_1_n_n_wf : DotDims.WF S8x1024x32 S32x8192 S8x1024x8192 [2] [0] [0, 1] [1] [] []

variable [Facts]

def dot_S8x1024x768_S768x32_S8x1024x32_2_0_01_1_n_n : DotDims S8x1024x768 S768x32 S8x1024x32 where
  lhsContracting := [2]
  rhsContracting := [0]
  lhsNonContracting := [0, 1]
  rhsNonContracting := [1]
  lhsBatch := []
  rhsBatch := []
  wf := dot_S8x1024x768_S768x32_S8x1024x32_2_0_01_1_n_n_wf
def dot_S8x1024x32_S32x8192_S8x1024x8192_2_0_01_1_n_n : DotDims S8x1024x32 S32x8192 S8x1024x8192 where
  lhsContracting := [2]
  rhsContracting := [0]
  lhsNonContracting := [0, 1]
  rhsNonContracting := [1]
  lhsBatch := []
  rhsBatch := []
  wf := dot_S8x1024x32_S32x8192_S8x1024x8192_2_0_01_1_n_n_wf
def fn_part1 {F : FTy → Type} [FloatOps F] (main_v17 : FVec F S8x1024x8192 .f32) (main_v19 : FVec F S8x1024x1 .f32) : IVec S8x1024 1 :=
  let main_v20 : FVec F S8x1024x8192 .f32 := broadcastInDim S8x1024x8192 ![0, 1, 2] bcast_S8x1024x1_S8x1024x8192_0_1_2 main_v19
  let main_v21 : IVec S8x1024x8192 1 := cmpf .oeq main_v17 main_v20
  let main_v22 : IVec S8x1024x8192 32 := (extui 32 · natLt_1_32) main_v21
  let main_c : IVec S_ 32 := constantI S_ 32 0#32
  let main_v23 : IVec S8x1024 32 := (fun x v => Host.reduce IntOp.addi x v reducesTo_S8x1024x8192_S8x1024_d2 h_S_) main_v22 main_c
  let main_c_3 : IVec S_ 32 := constantI S_ 32 1#32
  let main_v24 : IVec S8x1024 32 := broadcastInDim S8x1024 ![] bcast_S_S8x1024 main_c_3
  let main_v25 : IVec S8x1024 1 := cmpi .eq main_v23 main_v24
  main_v25

def fn {F : FTy → Type} [FloatOps F] (main_arg0 : FVec F S8x3x512x512 .f32) (main_arg1 : FVec F S768x32 .f32) (main_arg2 : FVec F S8192x32 .f32) : IVec S8x1024 1 :=
  let main_v0 : FVec F S8x3x32x16x32x16 .f32 := shapeCast S8x3x32x16x32x16 main_arg0 shapeCasts_S8x3x512x512_S8x3x32x16x32x16
  let main_v1 : FVec F S8x32x32x3x16x16 .f32 := (transpose S8x32x32x3x16x16 [0, 2, 4, 1, 3, 5] · transposes_S8x3x32x16x32x16_S8x32x32x3x16x16_0_2_4_1_3_5) main_v0
  let main_v2 : FVec F S8x1024x768 .f32 := shapeCast S8x1024x768 main_v1 shapeCasts_S8x32x32x3x16x16_S8x1024x768
  let main_v3 : FVec F S8x1024x32 .f32 := (fun l r => Host.dotGeneral dot_S8x1024x768_S768x32_S8x1024x32_2_0_01_1_n_n none l r) main_v2 main_arg1
  let main_v4 : FVec F S8x1024x32 .f32 := mulf main_v3 main_v3
  let main_cst : FVec F S_ .f32 := constant S_ .f32 0x00000000#32
  let main_v5 : FVec F S8x1024 .f32 := (fun x v => Host.reduceAdd x v reducesTo_S8x1024x32_S8x1024_d2 h_S_) main_v4 main_cst
  let main_v6 : FVec F S8x1024x1 .f32 := broadcastInDim S8x1024x1 ![0, 1] bcast_S8x1024_S8x1024x1_0_1 main_v5
  let main_v7 : FVec F S8192x32 .f32 := mulf main_arg2 main_arg2
  let main_cst_0 : FVec F S_ .f32 := constant S_ .f32 0x00000000#32
  let main_v8 : FVec F S8192 .f32 := (fun x v => Host.reduceAdd x v reducesTo_S8192x32_S8192_d1 h_S_) main_v7 main_cst_0
  let main_v9 : FVec F S32x8192 .f32 := (transpose S32x8192 [1, 0] · transposes_S8192x32_S32x8192_1_0) main_arg2
  let main_v10 : FVec F S8x1024x8192 .f32 := (fun l r => Host.dotGeneral dot_S8x1024x32_S32x8192_S8x1024x8192_2_0_01_1_n_n none l r) main_v3 main_v9
  let main_cst_1 : FVec F S_ .f32 := constant S_ .f32 0x40000000#32
  let main_v11 : FVec F S8x1024x8192 .f32 := broadcastInDim S8x1024x8192 ![] bcast_S_S8x1024x8192 main_cst_1
  let main_v12 : FVec F S8x1024x8192 .f32 := mulf main_v11 main_v10
  let main_v13 : FVec F S8x1024x8192 .f32 := broadcastInDim S8x1024x8192 ![0, 1, 2] bcast_S8x1024x1_S8x1024x8192_0_1_2 main_v6
  let main_v14 : FVec F S8x1024x8192 .f32 := subf main_v13 main_v12
  let main_v15 : FVec F S1x1x8192 .f32 := broadcastInDim S1x1x8192 ![2] bcast_S8192_S1x1x8192_2 main_v8
  let main_v16 : FVec F S8x1024x8192 .f32 := broadcastInDim S8x1024x8192 ![0, 1, 2] bcast_S1x1x8192_S8x1024x8192_0_1_2 main_v15
  let main_v17 : FVec F S8x1024x8192 .f32 := addf main_v14 main_v16
  let main_cst_2 : FVec F S_ .f32 := constant S_ .f32 0x7F800000#32
  let main_v18 : FVec F S8x1024 .f32 := (fun x v => Host.reduce FloatOps.minimumf x v reducesTo_S8x1024x8192_S8x1024_d2 h_S_) main_v17 main_cst_2
  let main_v19 : FVec F S8x1024x1 .f32 := broadcastInDim S8x1024x1 ![0, 1] bcast_S8x1024_S8x1024x1_0_1 main_v18
  fn_part1 (F := F) main_v17 main_v19
-- ==== Kernel.lean ====
abbrev S8x3x512x512 : Shape := ⟨4, ![8, 3, 512, 512]⟩
abbrev S768x32 : Shape := ⟨2, ![768, 32]⟩
abbrev S8192x32 : Shape := ⟨2, ![8192, 32]⟩
abbrev S_ : Shape := ⟨0, ![]⟩
abbrev S8192 : Shape := ⟨1, ![8192]⟩
abbrev S1x8192 : Shape := ⟨2, ![1, 8192]⟩
abbrev S256x32 : Shape := ⟨2, ![256, 32]⟩
abbrev S8x1024 : Shape := ⟨2, ![8, 1024]⟩
abbrev S1x3x512x512 : Shape := ⟨4, ![1, 3, 512, 512]⟩
abbrev S32x32 : Shape := ⟨2, ![32, 32]⟩
abbrev S3x512x512 : Shape := ⟨3, ![3, 512, 512]⟩
abbrev S3x32x16x512 : Shape := ⟨4, ![3, 32, 16, 512]⟩
abbrev S1x32x1x512 : Shape := ⟨4, ![1, 32, 1, 512]⟩
abbrev S32x512 : Shape := ⟨2, ![32, 512]⟩
abbrev S512x32 : Shape := ⟨2, ![512, 32]⟩
abbrev S32x16x32 : Shape := ⟨3, ![32, 16, 32]⟩
abbrev S32x768x32 : Shape := ⟨3, ![32, 768, 32]⟩
abbrev S32x32x768 : Shape := ⟨3, ![32, 32, 768]⟩
abbrev S1024x768 : Shape := ⟨2, ![1024, 768]⟩
abbrev S1024x32 : Shape := ⟨2, ![1024, 32]⟩
abbrev S1024 : Shape := ⟨1, ![1024]⟩
abbrev S1024x1 : Shape := ⟨2, ![1024, 1]⟩
abbrev S4096x32 : Shape := ⟨2, ![4096, 32]⟩
abbrev S1024x4096 : Shape := ⟨2, ![1024, 4096]⟩
abbrev S1x4096 : Shape := ⟨2, ![1, 4096]⟩
abbrev S1024x8192 : Shape := ⟨2, ![1024, 8192]⟩

abbrev nBuf : Space → Nat
  | .hbm => 13
  | .vmem => 7
  | .smem => 0
  | _ => 0

abbrev bufTy : (tb : Table) → Fin (tcTables nBuf tb) → BufTy
  | .hbm, ⟨0, _⟩ => ⟨S8x3x512x512, .f32⟩
  | .hbm, ⟨1, _⟩ => ⟨S768x32, .f32⟩
  | .hbm, ⟨2, _⟩ => ⟨S8192x32, .f32⟩
  | .hbm, ⟨3, _⟩ => ⟨S8192x32, .f32⟩
  | .hbm, ⟨4, _⟩ => ⟨S_, .f32⟩
  | .hbm, ⟨5, _⟩ => ⟨S8192, .f32⟩
  | .hbm, ⟨6, _⟩ => ⟨S1x8192, .f32⟩
  | .hbm, ⟨7, _⟩ => ⟨S768x32, .bf16⟩
  | .hbm, ⟨8, _⟩ => ⟨S8192x32, .bf16⟩
  | .hbm, ⟨9, _⟩ => ⟨S256x32, .i32⟩
  | .hbm, ⟨10, _⟩ => ⟨S8x1024, .i32⟩
  | .hbm, ⟨11, _⟩ => ⟨S_, .i32⟩
  | .hbm, ⟨12, _⟩ => ⟨S_, .i32⟩
  | .local _ .vmem, ⟨0, _⟩ => ⟨S1x3x512x512, .f32⟩
  | .local _ .vmem, ⟨1, _⟩ => ⟨S1x3x512x512, .f32⟩
  | .local _ .vmem, ⟨2, _⟩ => ⟨S768x32, .bf16⟩
  | .local _ .vmem, ⟨3, _⟩ => ⟨S8192x32, .bf16⟩
  | .local _ .vmem, ⟨4, _⟩ => ⟨S1x8192, .f32⟩
  | .local _ .vmem, ⟨5, _⟩ => ⟨S32x32, .i32⟩
  | .local _ .vmem, ⟨6, _⟩ => ⟨S32x32, .i32⟩
  | _, _ => ⟨S8x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_c : Ref sig .tc := ⟨.hbm, 11, rfl⟩
abbrev main_c_0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, v26.toNat, c0_i32_12.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x3x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32x32 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S8x3x512x512 : Shape := ⟨4, ![8, 3, 512, 512]⟩
abbrev S768x32 : Shape := ⟨2, ![768, 32]⟩
abbrev S8192x32 : Shape := ⟨2, ![8192, 32]⟩
abbrev S8x3x32x16x32x16 : Shape := ⟨6, ![8, 3, 32, 16, 32, 16]⟩
abbrev S8x32x32x3x16x16 : Shape := ⟨6, ![8, 32, 32, 3, 16, 16]⟩
abbrev S8x1024x768 : Shape := ⟨3, ![8, 1024, 768]⟩
abbrev S8x1024x32 : Shape := ⟨3, ![8, 1024, 32]⟩
abbrev S_ : Shape := ⟨0, ![]⟩
abbrev S8x1024 : Shape := ⟨2, ![8, 1024]⟩
abbrev S8x1024x1 : Shape := ⟨3, ![8, 1024, 1]⟩
abbrev S8192 : Shape := ⟨1, ![8192]⟩
abbrev S32x8192 : Shape := ⟨2, ![32, 8192]⟩
abbrev S8x1024x8192 : Shape := ⟨3, ![8, 1024, 8192]⟩
abbrev S1x1x8192 : Shape := ⟨3, ![1, 1, 8192]⟩

abbrev nBuf : Space → Nat
  | .hbm => 31
  | .vmem => 0
  | .smem => 0
  | _ => 0

abbrev bufTy : (tb : Table) → Fin (tcTables nBuf tb) → BufTy
  | .hbm, ⟨0, _⟩ => ⟨S8x3x512x512, .f32⟩
  | .hbm, ⟨1, _⟩ => ⟨S768x32, .f32⟩
  | .hbm, ⟨2, _⟩ => ⟨S8192x32, .f32⟩
  | .hbm, ⟨3, _⟩ => ⟨S8x3x32x16x32x16, .f32⟩
  | .hbm, ⟨4, _⟩ => ⟨S8x32x32x3x16x16, .f32⟩
  | .hbm, ⟨5, _⟩ => ⟨S8x1024x768, .f32⟩
  | .hbm, ⟨6, _⟩ => ⟨S8x1024x32, .f32⟩
  | .hbm, ⟨7, _⟩ => ⟨S8x1024x32, .f32⟩
  | .hbm, ⟨8, _⟩ => ⟨S_, .f32⟩
  | .hbm, ⟨9, _⟩ => ⟨S8x1024, .f32⟩
  | .hbm, ⟨10, _⟩ => ⟨S8x1024x1, .f32⟩
  | .hbm, ⟨11, _⟩ => ⟨S8192x32, .f32⟩
  | .hbm, ⟨12, _⟩ => ⟨S_, .f32⟩
  | .hbm, ⟨13, _⟩ => ⟨S8192, .f32⟩
  | .hbm, ⟨14, _⟩ => ⟨S32x8192, .f32⟩
  | .hbm, ⟨15, _⟩ => ⟨S8x1024x8192, .f32⟩
  | .hbm, ⟨16, _⟩ => ⟨S_, .f32⟩
  | .hbm, ⟨17, _⟩ => ⟨S8x1024x8192, .f32⟩
  | .hbm, ⟨18, _⟩ => ⟨S8x1024x8192, .f32⟩
  | .hbm, ⟨19, _⟩ => ⟨S8x1024x8192, .f32⟩
  | .hbm, ⟨20, _⟩ => ⟨S8x1024x8192, .f32⟩
  | .hbm, ⟨21, _⟩ => ⟨S1x1x8192, .f32⟩
  | .hbm, ⟨22, _⟩ => ⟨S8x1024x8192, .f32⟩
  | .hbm, ⟨23, _⟩ => ⟨S8x1024x8192, .f32⟩
  | .hbm, ⟨24, _⟩ => ⟨S8x1024x8192, .i32⟩
  | .hbm, ⟨25, _⟩ => ⟨S_, .f32⟩
  | .hbm, ⟨26, _⟩ => ⟨S_, .i32⟩
  | .hbm, ⟨27, _⟩ => ⟨S8x1024, .f32⟩
  | .hbm, ⟨28, _⟩ => ⟨S8x1024, .i32⟩
  | .hbm, ⟨29, _⟩ => ⟨S_, .i32⟩
  | .hbm, ⟨30, _⟩ => ⟨S_, .i32⟩
  | _, _ => ⟨S8x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_v0 : Ref sig .tc := ⟨.hbm, 24, rfl⟩
abbrev main_call0_cst : Ref sig .tc := ⟨.hbm, 25, rfl⟩
abbrev main_call0_c : Ref sig .tc := ⟨.hbm, 26, rfl⟩
abbrev main_call0_v1_0 : Ref sig .tc := ⟨.hbm, 27, rfl⟩
abbrev main_v18 : Ref sig .tc := ⟨.hbm, 28, rfl⟩
abbrev main_c : Ref sig .tc := ⟨.hbm, 29, rfl⟩
abbrev main_c_2 : Ref sig .tc := ⟨.hbm, 30, rfl⟩

abbrev nD : Nat := 1
abbrev τ : Topo := Topo.v7x

variable {F : FTy → Type} [FloatOps F]
-- ==== Proof.Patches.lean ====
/-
  The kernel's patch matrix: the 48 slabs its block stacks, and the stack read at an index.
-/
module

public import proofs.«01_k».proof.Proof.Gen.KernelIdeal.Frame
public import Idealize.ShloMosaic.PureOps.Ideal.Laws
public import Idealize.ShloMosaic.Lib.Pipeline.ValueKit

@[expose] public section

set_option maxRecDepth 16384

noncomputable section

namespace Cert.Nearest

open Idealize.ShloMosaic Idealize.ShloMosaic.TcCoe Idealize.SL.Sem Cert.KernelIdeal Cert.KernelIdeal.Gen

/-- Slab `n`'s place in the image: channel `n / 16`, row `n % 16` of every patch. -/
theorem slices_slab : ∀ n : Fin 48, S3x32x16x512.Slices ![n.val / 16, 0, n.val % 16, 0] S1x32x1x512 := by
  decide +kernel

/-- Slab `n` of the image seen as [3, 32, 16, 512], turned so that its first axis is the patch column. -/
def slab (v : FVec Ideal S3x32x16x512 .f32) (n : Fin 48) : FVec Ideal S32x16x32 .bf16 :=
  shapeCast S32x16x32 (transpose S512x32 [1, 0] (truncf .bf16 (shapeCast S32x512
    (extractStridedSlice S1x32x1x512 ![n.val / 16, 0, n.val % 16, 0] v (slices_slab n))
    shapeCasts_S1x32x1x512_S32x512) bitsLt_bf16_f32) transposes_S32x512_p1_0_S512x32) shapeCasts_S512x32_S32x16x32

/-- Slab `n` at (patch column, column in the patch, patch row) is the image's entry there. -/
theorem slab_apply (x : FVec Ideal S1x3x512x512 .f32) (n : Fin 48) (w : Fin 32) (j : Fin 16) (h : Fin 32) :
    slab (k0_pay1 x) n (ix3 w j h)
      = x (ix4 0 ⟨n.val / 16, by omega⟩ ⟨h.val * 16 + n.val % 16, by omega⟩ ⟨w.val * 16 + j.val, by omega⟩) := by
  pointwise [slab, k0_pay1]

/-- The 48 slabs stacked along the feature axis. -/
theorem concatenates_slabs (v : FVec Ideal S3x32x16x512 .f32) :
    Shape.Concatenates ((List.ofFn fun n : Fin 48 => (⟨S32x16x32, slab v n⟩ : (s : Shape) × (s.Idx → EReal))).map (·.1))
      S32x768x32 1 := by
  have : (List.ofFn fun n : Fin 48 => (⟨S32x16x32, slab v n⟩ : (s : Shape) × (s.Idx → EReal))).map (·.1)
      = List.replicate 48 S32x16x32 := rfl
  rw [this]
  decide +kernel

/-- The slabs stacked along the feature axis. -/
def stack (v : FVec Ideal S3x32x16x512 .f32) : FVec Ideal S32x768x32 .bf16 :=
  concatenate S32x768x32 1 (List.ofFn fun n : Fin 48 => (⟨S32x16x32, slab v n⟩ : (s : Shape) × (s.Idx → EReal)))
    (concatenates_slabs v)

/-- The stack at (patch column, feature, patch row). -/
theorem stack_apply (v : FVec Ideal S3x32x16x512 .f32) (w : Fin 32) (f : Fin 768) (h : Fin 32) :
    stack v (ix3 w f h) = slab v ⟨f.val / 16, by omega⟩ (ix3 w ⟨f.val % 16, by omega⟩ h) := by
  refine concatenate_ofFn_apply (t := S32x768x32) (s₁ := S32x16x32) (1 : Fin 3) (slab v) (concatenates_slabs v) rfl 16
    rfl (ix3 w f h) ⟨f.val / 16, by omega⟩ rfl (ix3 w ⟨f.val % 16, by omega⟩ h) rfl ?_
  intro b hb
  match b with
  | ⟨0, _⟩ => rfl
  | ⟨1, _⟩ => exact absurd rfl hb
  | ⟨2, _⟩ => rfl

/-- The kernel's patch matrix: row `32 w + h` is the patch in column `w`, row `h`. -/
def patches (v : FVec Ideal S3x32x16x512 .f32) : FVec Ideal S1024x768 .bf16 :=
  shapeCast S1024x768 (transpose S32x32x768 [0, 2, 1] (stack v) transposes_S32x768x32_p0_2_1_S32x32x768)
    shapeCasts_S32x32x768_S1024x768

/-- The patch matrix at a row and a feature. -/
theorem patches_apply (x : FVec Ideal S1x3x512x512 .f32) (r : Fin 1024) (f : Fin 768) :
    patches (k0_pay1 x) (ix2 r f)
      = x (ix4 0 ⟨f.val / 256, by omega⟩ ⟨r.val % 32 * 16 + f.val / 16 % 16, by omega⟩
          ⟨r.val / 32 * 16 + f.val % 16, by omega⟩) := by
  pointwise [patches]
  rw [stack_apply, slab_apply]
  congr 2
  exact Fin.ext (by simp only; omega)

end Cert.Nearest

end
-- ==== Proof.Argmin.lean ====
/-
  The first nearest position of a row, as the kernel's index reduction and the reference's two-operand fold compute it.
-/
module

public import proofs.«01_k».proof.ReferenceIdeal
public import Idealize.ShloMosaic.PureOps.Ideal.Laws
public import Idealize.ShloMosaic.Lib.Pipeline.ValueKit

@[expose] public section

noncomputable section

namespace Cert.Nearest

open Idealize.ShloMosaic

/-- Position `k` holds a least entry of the row `f`, and no earlier position does. -/
def IsFirstLeast {n : Nat} (f : Fin n → EReal) (k : Fin n) : Prop :=
  (∀ k', f k ≤ f k') ∧ ∀ k', f k' ≤ f k → k ≤ k'

/-- A row with at least one entry has a first least position. -/
theorem exists_isFirstLeast {n : Nat} (hn : 0 < n) (f : Fin n → EReal) : ∃ k, IsFirstLeast f k := by
  classical
  haveI : Nonempty (Fin n) := ⟨⟨0, hn⟩⟩
  obtain ⟨k₀, hk₀⟩ := Finite.exists_min f
  let S := Finset.univ.filter fun k => f k ≤ f k₀
  have hS : S.Nonempty := ⟨k₀, by simp [S]⟩
  have hm := S.min'_mem hS
  simp only [S, Finset.mem_filter, Finset.mem_univ, true_and] at hm
  refine ⟨S.min' hS, fun k' => hm.trans (hk₀ k'), fun k' hk' => S.min'_le _ ?_⟩
  simpa [S] using hk'.trans hm

/-- The index reduction of the kernel, read at one row, is the first least position of that row. -/
theorem reduceIndex_eq {s t : Shape} {a : Fin s.rank} (h : s.Reduces [a] t) (x : s.Idx → EReal) (j : t.Idx)
    (k : Fin (s.size a)) (hk : IsFirstLeast (fun k => x (h.lift j k)) k) :
    Ideal.reduceIndex .argMin a h x j = BitVec.ofNat 32 k.val := by
  classical
  unfold Ideal.reduceIndex
  simp only [reduceCtorEq, if_false]
  have hax : ∀ k, (h.lift j k) a = k := fun k =>
    h.lift_injective j (by rw [show h.lift j ((h.lift j k) a) = h.lift (h.drop (h.lift j k)) ((h.lift j k) a) by
      rw [h.drop_lift], h.lift_drop])
  have hfib : ∀ i, h.drop i = j → i = h.lift j (i a) := fun i hi => by
    subst hi; exact (h.lift_drop i).symm
  have key : ∀ S : Finset ℕ, k.val ∈ S → (∀ q ∈ S, k.val ≤ q) → S.min.getD 0 = k.val := fun S hm hl => by
    have : S.min = ((k.val : ℕ) : WithTop ℕ) :=
      le_antisymm (Finset.min_le hm) (Finset.le_min fun q hq => WithTop.coe_le_coe.mpr (hl q hq))
    rw [this]; rfl
  refine congrArg (BitVec.ofNat 32) (key _ ?_ fun q hq => ?_)
  · rw [Finset.mem_image]
    refine ⟨h.lift j k, ?_, by rw [hax]⟩
    simp only [Finset.mem_filter, Finset.mem_univ, true_and, h.drop_lift]
    intro i' hi'
    rw [hfib i' hi', not_lt]
    exact hk.1 _
  · rw [Finset.mem_image] at hq
    obtain ⟨i, hi, rfl⟩ := hq
    simp only [Finset.mem_filter, Finset.mem_univ, true_and] at hi
    have := hi.2 (h.lift j k) (h.drop_lift j k)
    rw [hfib i hi.1, not_lt] at this
    exact_mod_cast hk.2 _ this

/-- The order the reference's reducer minimizes: by value, then by position. -/
def Before (p q : EReal × BitVec 32) : Prop := p.1 < q.1 ∨ (p.1 = q.1 ∧ p.2.toInt ≤ q.2.toInt)

theorem Before.refl (p : EReal × BitVec 32) : Before p p := .inr ⟨rfl, le_rfl⟩

theorem Before.trans {p q r : EReal × BitVec 32} (h : Before p q) (h' : Before q r) : Before p r := by
  rcases h with h | ⟨h, h₂⟩ <;> rcases h' with h' | ⟨h', h₂'⟩
  · exact .inl (h.trans h')
  · exact .inl (h' ▸ h)
  · exact .inl (h ▸ h')
  · exact .inr ⟨h.trans h', h₂.trans h₂'⟩

/-- One step of the reference's reducer returns one of its two pairs, the one before the other. -/
theorem reducer_spec (a b : EReal × BitVec 32) :
    let r : EReal × BitVec 32 := Cert.ReferenceIdeal.reducer_argmin_f32_i32 (F := Ideal) a b
    (r = a ∨ r = b) ∧ Before r a ∧ Before r b := by
  obtain ⟨a₁, a₂⟩ := a
  obtain ⟨b₁, b₂⟩ := b
  rcases lt_trichotomy a₁ b₁ with h | h | h
  · have : Cert.ReferenceIdeal.reducer_argmin_f32_i32 (F := Ideal) (a₁, a₂) (b₁, b₂) = (a₁, a₂) := by
      simp [Cert.ReferenceIdeal.reducer_argmin_f32_i32, Ideal.cmpf_def, Ideal.cmp, h, h.ne, Scalar.select, IntOp.ori,
        IntOp.andi]
    simp only [this]
    exact ⟨by simp, .refl _, .inl h⟩
  · subst h
    by_cases hi : a₂.toInt < b₂.toInt
    · have : Cert.ReferenceIdeal.reducer_argmin_f32_i32 (F := Ideal) (a₁, a₂) (a₁, b₂) = (a₁, a₂) := by
        simp [Cert.ReferenceIdeal.reducer_argmin_f32_i32, Ideal.cmpf_def, Ideal.cmp, hi, Scalar.select, IntOp.ori,
          IntOp.andi, IntOp.cmpi, BitVec.slt]
      simp only [this]
      exact ⟨by simp, .refl _, .inr ⟨rfl, hi.le⟩⟩
    · have : Cert.ReferenceIdeal.reducer_argmin_f32_i32 (F := Ideal) (a₁, a₂) (a₁, b₂) = (a₁, b₂) := by
        simp [Cert.ReferenceIdeal.reducer_argmin_f32_i32, Ideal.cmpf_def, Ideal.cmp, hi, Scalar.select, IntOp.ori,
          IntOp.andi, IntOp.cmpi, BitVec.slt]
      simp only [this]
      exact ⟨by simp, .inr ⟨rfl, not_lt.mp hi⟩, .refl _⟩
  · have : Cert.ReferenceIdeal.reducer_argmin_f32_i32 (F := Ideal) (a₁, a₂) (b₁, b₂) = (b₁, b₂) := by
      simp [Cert.ReferenceIdeal.reducer_argmin_f32_i32, Ideal.cmpf_def, Ideal.cmp, h.ne', not_lt.mpr h.le,
        Scalar.select, IntOp.ori, IntOp.andi]
    simp only [this]
    exact ⟨by simp, .inl h, .refl _⟩

/-- The reference's fold over a list of pairs returns one of them (or the initial pair), before all of them. -/
theorem foldl_spec (l : List (EReal × BitVec 32)) (z : EReal × BitVec 32) :
    let r : EReal × BitVec 32 := l.foldl (Cert.ReferenceIdeal.reducer_argmin_f32_i32 (F := Ideal)) z
    (r = z ∨ r ∈ l) ∧ Before r z ∧ ∀ q ∈ l, Before r q := by
  induction l generalizing z with
  | nil => exact ⟨.inl rfl, .refl _, fun q hq => by simp at hq⟩
  | cons p l ih =>
    obtain ⟨hs, ha, hb⟩ := reducer_spec z p
    obtain ⟨hm, h0, hl⟩ := ih (Cert.ReferenceIdeal.reducer_argmin_f32_i32 (F := Ideal) z p)
    simp only [List.foldl_cons]
    refine ⟨?_, h0.trans ha, fun q hq => ?_⟩
    · rcases hm with hm | hm
      · rcases hs with hs | hs
        · exact .inl (hm.trans hs)
        · exact .inr (by rw [hm.trans hs]; simp)
      · exact .inr (List.mem_cons_of_mem _ hm)
    · rcases List.mem_cons.mp hq with rfl | hq
      · exact h0.trans hb
      · exact hl q hq

/-- A position below 2147483648, read as a signed word, is itself. -/
theorem toInt_ofNat {k : Nat} (hk : k < 2147483648) : (BitVec.ofNat 32 k).toInt = k := by
  rw [BitVec.toInt_eq_toNat_cond, BitVec.toNat_ofNat]
  omega

/-- The positions the reference's two-operand fold returns, at any shapes. -/
def foldIdx {s t u : Shape} {a : Fin s.rank} (h' : s.ReducesTo [a] t) (hu : 0 < u.numel)
    (x : s.Idx → EReal) (y : s.Idx → BitVec 32) (ix : u.Idx → EReal) (iy : u.Idx → BitVec 32) : t.Idx → BitVec 32 :=
  fun j => (Host.argReduce (F := Ideal) (φ := .f32) (Cert.ReferenceIdeal.reducer_argmin_f32_i32 (F := Ideal)) x y ix iy
    h' hu j).2

/-- The reference's fold of (value, position) pairs from (+∞, 0), read at one row, gives the first least position. -/
theorem foldIdx_eq {s t u : Shape} {a : Fin s.rank} (h' : s.ReducesTo [a] t) (h : s.Reduces [a] t) (hu : 0 < u.numel)
    (x : s.Idx → EReal) (y : s.Idx → BitVec 32) (ix : u.Idx → EReal) (iy : u.Idx → BitVec 32) (j : t.Idx)
    (hx : ix (Shape.Idx.first hu) = ⊤) (hy : iy (Shape.Idx.first hu) = 0#32)
    (hyy : ∀ i, y i = BitVec.ofNat 32 (i a).val) (hn : s.size a ≤ 2147483648)
    (k : Fin (s.size a)) (hk : IsFirstLeast (fun k => x (h.lift j k)) k) :
    foldIdx h' hu x y ix iy j = BitVec.ofNat 32 k.val := by
  classical
  have hax : ∀ k, (h.lift j k) a = k := fun k =>
    h.lift_injective j (by rw [show h.lift j ((h.lift j k) a) = h.lift (h.drop (h.lift j k)) ((h.lift j k) a) by
      rw [h.drop_lift], h.lift_drop])
  have hmem : ∀ k, (x (h.lift j k), BitVec.ofNat 32 k.val) ∈ Host.argReduceFiber x y h' j := fun k => by
    rw [Host.argReduceFiber, List.mem_map]
    refine ⟨s.rowMajor (h.lift j k), ?_, by rw [Equiv.symm_apply_apply, hyy, hax]⟩
    simp only [List.mem_filter, List.mem_finRange, true_and, Equiv.symm_apply_apply, decide_eq_true_eq]
    rw [Shape.ReducesTo.drop_eq_drop h' h, h.drop_lift]
  have hmem' : ∀ p ∈ Host.argReduceFiber x y h' j, ∃ k, p = (x (h.lift j k), BitVec.ofNat 32 k.val) := fun p hp => by
    rw [Host.argReduceFiber, List.mem_map] at hp
    obtain ⟨n, hn, rfl⟩ := hp
    simp only [List.mem_filter, List.mem_finRange, true_and, decide_eq_true_eq] at hn
    rw [Shape.ReducesTo.drop_eq_drop h' h] at hn
    refine ⟨(s.rowMajor.symm n) a, ?_⟩
    rw [← hn, h.lift_drop, hyy]
  rw [foldIdx, Ideal.argReduce_eq_reduce2, Host.reduce2_eq_foldl_fiber, hx, hy]
  obtain ⟨hm, h0, hl⟩ := foldl_spec (Host.argReduceFiber x y h' j) (⊤, 0#32)
  set r : EReal × BitVec 32 :=
    (Host.argReduceFiber x y h' j).foldl (Cert.ReferenceIdeal.reducer_argmin_f32_i32 (F := Ideal)) (⊤, 0#32)
  change r.2 = _
  have hpos : 0 < s.size a := k.pos
  have hex : ∃ q, r = (x (h.lift j q), BitVec.ofNat 32 q.val) := by
    rcases hm with hm | hm
    · have := hl _ (hmem ⟨0, hpos⟩)
      rw [hm] at this
      refine ⟨⟨0, hpos⟩, ?_⟩
      rcases this with this | ⟨this, -⟩
      · exact absurd this (by simp)
      · rw [hm]; exact Prod.ext this rfl
    · exact hmem' _ hm
  obtain ⟨q, hq⟩ := hex
  have hqk := hl _ (hmem k)
  rw [hq] at hqk ⊢
  have e : q = k := by
    rcases hqk with hlt | ⟨heq, hle⟩
    · exact absurd hlt (not_lt.mpr (hk.1 q))
    · refine le_antisymm ?_ (hk.2 q heq.le)
      have hq2 := q.isLt
      have hk2 := k.isLt
      dsimp only at hle
      rw [toInt_ofNat (by omega), toInt_ofNat (by omega)] at hle
      exact_mod_cast hle
  rw [e]

/-- Inserting the last coordinate of a rank-3 index. -/
theorem lift_last3 {n0 n1 n2 : Nat} (h : (⟨3, ![n0, n1, n2]⟩ : Shape).Reduces [2] ⟨2, ![n0, n1]⟩) (b : Fin n0)
    (n : Fin n1) (k : Fin n2) : h.lift (ix2 b n) k = ix3 b n k := by
  have e := h.lift_drop (ix3 b n k)
  rw [(h.fiber_r3_a2 (ix2 b n) (ix3 b n k)).2 ⟨k, rfl⟩] at e
  exact e

/-- Inserting the last coordinate of a rank-2 index. -/
theorem lift_last2 {n0 n1 : Nat} (h : (⟨2, ![n0, n1]⟩ : Shape).Reduces [1] ⟨1, ![n0]⟩) (b : Fin n0) (k : Fin n1) :
    h.lift (ix1 b) k = ix2 b k := by
  have e := h.lift_drop (ix2 b k)
  rw [(h.fiber_r2_a1 (ix1 b) (ix2 b k)).2 ⟨k, rfl⟩] at e
  exact e

end Cert.Nearest

end
-- ==== Proof.Block.lean ====
/-
  What the kernel writes for one image: at patch row `h` and patch column `w`, the first least position of the row of
  distances of that patch.
-/
module

public import proofs.«01_k».proof.Proof.Patches
public import proofs.«01_k».proof.Proof.Argmin

@[expose] public section

set_option maxRecDepth 16384

noncomputable section

namespace Cert.Nearest

open Idealize.ShloMosaic Idealize.ShloMosaic.TcCoe Idealize.SL.Sem Cert.KernelIdeal Cert.KernelIdeal.Gen

variable (x0 : Vec Ideal S1x3x512x512 .f32) (x1 : Vec Ideal S768x32 .bf16) (x2 : Vec Ideal S8192x32 .bf16)
  (x3 : Vec Ideal S1x8192 .f32)

/-- The kernel's encoded patches. -/
def blkEnc : FVec Ideal S1024x32 .f32 :=
  matmul (φ₂ := .bf16) dot_S1024x768_S768x32_S1024x32_1_0_0_1_n_n none (patches (k0_pay1 x0))
    (shapeCast S768x32 x1 shapeCasts_S768x32_S768x32) (constant S1024x32 .f32 0x00000000#32)

/-- One half of the kernel's distances, from that half of the codes and of their squared lengths. -/
def halfDist (e : FVec Ideal S1024x32 .f32) (cb : FVec Ideal S4096x32 .bf16) (c2 : FVec Ideal S1x4096 .f32) :
    FVec Ideal S1024x4096 .f32 :=
  addf
    (subf
      (broadcastTo S1024x4096 (shapeCast S1024x1 (multiReduction .add [1] S1024 (mulf e e) 0x00000000#32
        reduces_S1024x32_S1024 (.inl rfl) rfl) shapeCasts_S1024_S1024x1) broadcasts_S1024x1_S1024x4096)
      (matmul dot_S1024x32_S4096x32_S1024x4096_1_1_0_0_n_n none
        (truncf .bf16 (mulf (broadcast S1024x32 (Scalar.ofBits .f32 0x40000000#32)) e) bitsLt_bf16_f32)
        (shapeCast S4096x32 cb shapeCasts_S4096x32_S4096x32) (constant S1024x4096 .f32 0x00000000#32)))
    (broadcastTo S1024x4096 (shapeCast S1x4096 c2 shapeCasts_S1x4096_S1x4096) broadcasts_S1x4096_S1024x4096)

/-- The kernel's distances: the two halves side by side. -/
def blkDist : FVec Ideal S1024x8192 .f32 :=
  concatenate S1024x8192 1
    [⟨S1024x4096, halfDist (blkEnc x0 x1) (View.ld (Val := Elt Ideal) x2 r0_2) (View.ld (Val := Elt Ideal) x3 r0_3)⟩,
      ⟨S1024x4096, halfDist (blkEnc x0 x1) (View.ld (Val := Elt Ideal) x2 r0_4) (View.ld (Val := Elt Ideal) x3 r0_5)⟩]
    concatenates_S1024x4096_S1024x4096_S1024x8192_d1

/-- What the kernel stores for one image. -/
def blkOut : IVec S32x32 32 :=
  transpose S32x32 [1, 0] (shapeCast S32x32
    (reduceIndex (F := Ideal) .argMin 1 S1024 (blkDist x0 x1 x2 x3) reduces_S1024x8192_S1024) shapeCasts_S1024_S32x32)
    transposes_S32x32_p1_0_S32x32

theorem hz2 : (![0, 0] : Fin 2 → Nat) = fun _ => 0 := funext fun a => by fin_cases a <;> rfl

theorem hz4 : (![0, 0, 0, 0] : Fin 4 → Nat) = fun _ => 0 := funext fun a => by fin_cases a <;> rfl

/-- The block the kernel body leaves is that stored value. -/
theorem out_eq : out0_4 x0 x1 x2 x3 = blkOut x0 x1 x2 x3 := by
  unfold out0_4 k0_pay53
  rw [View.canon_unit_zero hz2, View.ld_unit_zero hz4, View.ld_unit_zero hz2]
  rfl

/-- The encoded patches at row `r`. -/
theorem blkEnc_apply (r : Fin 1024) (d : Fin 32) :
    blkEnc x0 x1 (ix2 r d) = ∑ f : Fin 768, x0 (ix4 0 ⟨f.val / 256, by omega⟩
      ⟨r.val % 32 * 16 + f.val / 16 % 16, by omega⟩ ⟨r.val / 32 * 16 + f.val % 16, by omega⟩) * x1 (ix2 f d) := by
  pointwise [blkEnc]
  simp only [patches_apply]

/-- One half of the distances at a row and a code. -/
theorem halfDist_apply (e : FVec Ideal S1024x32 .f32) (cb : FVec Ideal S4096x32 .bf16) (c2 : FVec Ideal S1x4096 .f32)
    (r : Fin 1024) (k : Fin 4096) :
    halfDist e cb c2 (ix2 r k) = (∑ d : Fin 32, e (ix2 r d) * e (ix2 r d))
      - (∑ d : Fin 32, Ideal.ofBits .f32 0x40000000#32 * e (ix2 r d) * cb (ix2 k d)) + c2 (ix2 0 k) := by
  pointwise [halfDist]

/-- Code `o + k` of the code book, read in the half that starts at row `o`. -/
theorem ld_codes (o : Nat) (inb) (k : Fin 4096) (d : Fin 32) (k' : Fin 8192) (hk : k'.val = o + k.val) :
    View.ld (Val := Elt Ideal) x2 (Rect.unit (s := S8192x32) ![o, 0] S4096x32.size inb) (ix2 k d) = x2 (ix2 k' d) :=
  View.ld_unit_apply_of x2 _ _ _ _ _ fun a => by
    fin_cases a
    · exact hk
    · exact (Nat.zero_add _).symm

/-- Squared length `o + k`, read in the half that starts at column `o`. -/
theorem ld_lens (o : Nat) (inb) (k : Fin 4096) (k' : Fin 8192) (hk : k'.val = o + k.val) :
    View.ld (Val := Elt Ideal) x3 (Rect.unit (s := S1x8192) ![0, o] S1x4096.size inb) (ix2 0 k) = x3 (ix2 0 k') :=
  View.ld_unit_apply_of x3 _ _ _ _ _ fun a => by
    fin_cases a
    · rfl
    · exact hk

/-- The distances at a row and a code. -/
theorem blkDist_apply (r : Fin 1024) (k : Fin 8192) :
    blkDist x0 x1 x2 x3 (ix2 r k) = (∑ d : Fin 32, blkEnc x0 x1 (ix2 r d) * blkEnc x0 x1 (ix2 r d))
      - (∑ d : Fin 32, Ideal.ofBits .f32 0x40000000#32 * blkEnc x0 x1 (ix2 r d) * x2 (ix2 k d)) + x3 (ix2 0 k) := by
  pointwise [blkDist]
  by_cases h : k.val < 4096
  · refine (dif_pos h).trans ((halfDist_apply _ _ _ r ⟨k.val, h⟩).trans ?_)
    simp only [ld_codes x2 0 _ ⟨k.val, h⟩ _ k (Nat.zero_add _).symm, ld_lens x3 0 _ ⟨k.val, h⟩ k (Nat.zero_add _).symm]
  · refine (dif_neg h).trans ((halfDist_apply _ _ _ r ⟨k.val - 4096, by omega⟩).trans ?_)
    have hk : k.val = 4096 + (k.val - 4096) := by omega
    simp only [ld_codes x2 4096 _ ⟨k.val - 4096, by omega⟩ _ k hk, ld_lens x3 4096 _ ⟨k.val - 4096, by omega⟩ k hk]

/-- What the kernel stores at patch row `h` and patch column `w` is the first least position of its row of distances. -/
theorem blkOut_apply (h w : Fin 32) (k : Fin 8192)
    (hk : IsFirstLeast (fun k => blkDist x0 x1 x2 x3 (ix2 ⟨w.val * 32 + h.val, by omega⟩ k)) k) :
    blkOut x0 x1 x2 x3 (ix2 h w) = BitVec.ofNat 32 k.val := by
  pointwise [blkOut]
  refine (reduceIndex_eq reduces_S1024x8192_S1024 (blkDist x0 x1 x2 x3) _ k ?_)
  have e := funext fun k : Fin 8192 => congrArg (blkDist x0 x1 x2 x3)
    (lift_last2 reduces_S1024x8192_S1024 ⟨w.val * 32 + h.val, by omega⟩ k)
  exact (congrArg (fun f => IsFirstLeast f k) e).mpr hk

end Cert.Nearest

end
-- ==== Proof.Scale.lean ====
/-
  A nonnegative real factor moves through a finite sum of extended reals.
-/
module

public import Idealize.ShloMosaic.PureOps.Ideal.Laws

@[expose] public section

namespace Cert.Nearest

open Idealize.ShloMosaic

/-- The f32 word `0x40000000` is the real number two. -/
theorem ofBits_two : Ideal.ofBits .f32 0x40000000#32 = ((2 : ℝ) : EReal) := by
  simp [Ideal.ofBits, Ideal.ieee]
  rw [← EReal.coe_mul]
  congr 1
  norm_num

/-- A nonnegative real factor distributes over a finite sum of extended reals. -/
theorem coe_mul_sum {ι : Type*} {c : ℝ} (hc : 0 ≤ c) (s : Finset ι) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (by exact_mod_cast hc) (EReal.coe_ne_top c) _ _

/-- Twice a sum of products is the sum of the products with the left factor doubled. -/
theorem two_mul_sum {ι : Type*} (s : Finset ι) (a b : ι → EReal) :
    Ideal.ofBits .f32 0x40000000#32 * ∑ i ∈ s, a i * b i
      = ∑ i ∈ s, Ideal.ofBits .f32 0x40000000#32 * a i * b i := by
  rw [ofBits_two, coe_mul_sum (by norm_num)]
  exact Finset.sum_congr rfl fun i _ => (mul_assoc _ _ _).symm

end Cert.Nearest
-- ==== Proof.RefValue.lean ====
/-
  The reference's run: its first result is, row by row, the first least position of the row of distances.
-/
module

public import proofs.«01_k».proof.Proof.Argmin
public import proofs.«01_k».proof.Proof.Gen.ReferenceIdeal
public import Idealize.ShloMosaic.Lib.Quiescent
public import Idealize.ShloMosaic.Lib.Claim
public import Idealize.ShloMosaic.Lib.Pipeline.ValueKit

@[expose] public section

set_option maxRecDepth 16384

noncomputable section

namespace Cert.Nearest

open Idealize.ShloMosaic Idealize.ShloMosaic.TcCoe Idealize.SL.Sem Cert.ReferenceIdeal Cert.ReferenceIdeal.Gen

/-- Entry `(b, n, d)` of the encoded patches: the sum over the 768 features of patch `n` of image `b`, feature `f` being
    channel `f / 256`, row `f / 16 % 16` and column `f % 16` of the patch. -/
def enc (x : S8x3x512x512.Idx → EReal) (W : S768x32.Idx → EReal) (b : Fin 8) (n : Fin 1024) (d : Fin 32) : EReal :=
  ∑ f : Fin 768, x (ix4 b ⟨f.val / 256, by omega⟩ ⟨n.val / 32 * 16 + f.val / 16 % 16, by omega⟩
    ⟨n.val % 32 * 16 + f.val % 16, by omega⟩) * W (ix2 f d)

/-- The distance from the encoded patch `(b, n)` to code `k`, expanded as the reference writes it. -/
def dist (x : S8x3x512x512.Idx → EReal) (W : S768x32.Idx → EReal) (cb : S8192x32.Idx → EReal) (b : Fin 8) (n : Fin 1024)
    (k : Fin 8192) : EReal :=
  (∑ d : Fin 32, enc x W b n d * enc x W b n d)
    - Ideal.ofBits .f32 0x40000000#32 * (∑ d : Fin 32, enc x W b n d * cb (ix2 k d))
    + ∑ d : Fin 32, cb (ix2 k d) * cb (ix2 k d)

variable (x : FVec Ideal S8x3x512x512 .f32) (W : FVec Ideal S768x32 .f32) (cb : FVec Ideal S8192x32 .f32)

/-- The reference's encoded patches, as its operations compose. -/
def refEnc : FVec Ideal S8x1024x32 .f32 :=
  Host.dotGeneral dot_S8x1024x768_S768x32_S8x1024x32_2_0_01_1_n_n none
    (shapeCast S8x1024x768 (transpose S8x32x32x3x16x16 [0, 2, 4, 1, 3, 5]
      (shapeCast S8x3x32x16x32x16 x shapeCasts_S8x3x512x512_S8x3x32x16x32x16)
      transposes_S8x3x32x16x32x16_S8x32x32x3x16x16_0_2_4_1_3_5) shapeCasts_S8x32x32x3x16x16_S8x1024x768) W

/-- The reference's encoded patches at an index. -/
theorem refEnc_apply (b : Fin 8) (n : Fin 1024) (d : Fin 32) : refEnc x W (ix3 b n d) = enc x W b n d := by
  pointwise [refEnc, enc]

/-- The reference's distances, as its operations compose. -/
def refDist : FVec Ideal S8x1024x8192 .f32 :=
  addf
    (subf
      (broadcastInDim S8x1024x8192 ![0, 1, 2] bcast_S8x1024x1_S8x1024x8192_0_1_2
        (broadcastInDim S8x1024x1 ![0, 1] bcast_S8x1024_S8x1024x1_0_1
          (Host.reduceAdd (mulf (refEnc x W) (refEnc x W)) (constant S_ .f32 0x00000000#32)
            reducesTo_S8x1024x32_S8x1024_d2 h_S_)))
      (mulf (broadcastInDim S8x1024x8192 ![] bcast_S_S8x1024x8192 (constant S_ .f32 0x40000000#32))
        (Host.dotGeneral dot_S8x1024x32_S32x8192_S8x1024x8192_2_0_01_1_n_n none (refEnc x W)
          (transpose S32x8192 [1, 0] cb transposes_S8192x32_S32x8192_1_0))))
    (broadcastInDim S8x1024x8192 ![0, 1, 2] bcast_S1x1x8192_S8x1024x8192_0_1_2
      (broadcastInDim S1x1x8192 ![2] bcast_S8192_S1x1x8192_2
        (Host.reduceAdd (mulf cb cb) (constant S_ .f32 0x00000000#32) reducesTo_S8192x32_S8192_d1 h_S_)))

/-- The reference's distances at an index. -/
theorem refDist_apply (b : Fin 8) (n : Fin 1024) (k : Fin 8192) :
    refDist x W cb (ix3 b n k) = dist x W cb b n k := by
  pointwise [refDist, dist]
  simp only [refEnc_apply]

/-- The reference's positions, as its operations compose. -/
def refIdx : IVec S8x1024 32 :=
  foldIdx (a := (2 : Fin 3)) (s := S8x1024x8192) (t := S8x1024) reducesTo_S8x1024x8192_S8x1024_d2 h_S_ (refDist x W cb) (iotaInDim S8x1024x8192 32 2)
    (constant (F := Ideal) S_ .f32 0x7F800000#32) (constantI S_ 32 0#32)

/-- The last axis of the distances reduces away. -/
theorem reduces_dist : S8x1024x8192.Reduces [2] S8x1024 := by decide

/-- The initial value of the reference's fold is +∞. -/
theorem constant_top : (constant (F := Ideal) S_ .f32 0x7F800000#32) (Shape.Idx.first h_S_) = (⊤ : EReal) := by
  show Ideal.ofBits .f32 0x7F800000#32 = ⊤
  simp [Ideal.ofBits, Ideal.ieee]

/-- The position counted along the last axis. -/
theorem iota_last (i : S8x1024x8192.Idx) : iotaInDim S8x1024x8192 32 2 i = BitVec.ofNat 32 (i 2).val := rfl

/-- The initial position of the reference's fold is zero. -/
theorem constant_zero : (constantI S_ 32 0#32) (Shape.Idx.first h_S_) = 0#32 := rfl

/-- The last axis has 8192 positions. -/
theorem size_last : S8x1024x8192.size 2 ≤ 2147483648 := by
  show 8192 ≤ 2147483648
  norm_num

/-- The reference's position at `(b, n)` is the first least position of that row of distances. -/
theorem refIdx_apply (b : Fin 8) (n : Fin 1024) (k : Fin 8192) (hk : IsFirstLeast (dist x W cb b n) k) :
    refIdx x W cb (ix2 b n) = BitVec.ofNat 32 k.val := by
  have e : (fun q => refDist x W cb (reduces_dist.lift (ix2 b n) q)) = dist x W cb b n := funext fun q =>
    (congrArg _ (lift_last3 reduces_dist b n q)).trans (refDist_apply x W cb b n q)
  exact foldIdx_eq reducesTo_S8x1024x8192_S8x1024_d2 reduces_dist h_S_ (refDist x W cb) (iotaInDim S8x1024x8192 32 2)
    _ _ (ix2 b n) constant_top constant_zero iota_last size_last k (e ▸ hk)

end Cert.Nearest

end
-- ==== Proof.Array.lean ====
/-
  The kernel's output array after the region: at row `b * 32 + h` and column `w`, the first least position of the row
  of distances of patch `h * 32 + w` of image `b`.
-/
module

public import proofs.«01_k».proof.Proof.Block
public import proofs.«01_k».proof.Proof.Scale
public import proofs.«01_k».proof.Proof.RefValue
public import Idealize.ShloMosaic.Lib.Claim

@[expose] public section

set_option maxRecDepth 16384

noncomputable section

namespace Cert.Nearest

open Idealize.ShloMosaic Idealize.ShloMosaic.TcCoe Idealize.SL.Sem Cert.KernelIdeal Cert.KernelIdeal.Gen

variable (m : (ℓ : Loc nD τ sig) → Buf (Elt Ideal) ℓ)

/-- The images. -/
abbrev imgs (c : Dev nD) : FVec Ideal S8x3x512x512 .f32 := m ((c.tc : Thread nD τ).loc main_arg0)

/-- The embedding matrix. -/
abbrev weights (c : Dev nD) : FVec Ideal S768x32 .f32 := m ((c.tc : Thread nD τ).loc main_arg1)

/-- The code book. -/
abbrev codes (c : Dev nD) : FVec Ideal S8192x32 .f32 := m ((c.tc : Thread nD τ).loc main_arg2)

/-- The block index of every window: the image's number for the images and the results, none for the three others. -/
theorem idx : ∀ t : Fin grid0.N, win0_0.index t = ![t.val, 0, 0, 0] ∧ win0_1.index t = ![0, 0]
    ∧ win0_2.index t = ![0, 0] ∧ win0_3.index t = ![0, 0] ∧ win0_4.index t = ![t.val, 0] := by
  decide +kernel

/-- The embedding matrix the region reads is the argument. -/
theorem entry_weights (c : Dev nD) (i : S768x32.Idx) :
    V m c main_call0_v3 i = weights m c i := by
  have h : V m c main_call0_v3 = truncf .bf16 (weights m c) bitsLt_bf16_f32 := rfl
  rw [h]
  rfl

/-- The code book the region reads is the argument. -/
theorem entry_codes (c : Dev nD) (i : S8192x32.Idx) :
    V m c main_call0_v4 i = codes m c i := by
  have h : V m c main_call0_v4 = truncf .bf16 (codes m c) bitsLt_bf16_f32 := rfl
  rw [h]
  rfl

/-- The squared lengths the region reads are those of the argument's codes. -/
theorem entry_lens (c : Dev nD) (k : Fin 8192) :
    V m c main_call0_v2 (ix2 0 k) = ∑ d : Fin 32, codes m c (ix2 k d)
      * codes m c (ix2 k d) := by
  have h : V m c main_call0_v2 = broadcastInDim S1x8192 ![1] bcast_S8192_S1x8192_1
      (Host.reduceAdd (mulf (codes m c) (codes m c)) (constant (F := Ideal) S_ .f32 0x00000000#32)
        reducesTo_S8192x32_S8192_d1 h_S_) := rfl
  rw [h]
  pointwise

/-- The image's block at point `t` is image `t`. -/
theorem iblk_image (c : Dev nD) (t : Fin cfg0.N) (b : Fin 8) (hb : b.val = t.val) (a : Fin 3) (i j : Fin 512) :
    iblk m c 0 t (ix4 0 a i j) = imgs m c (ix4 b a i j) := by
  blk_ext [iblk, V_main_arg0, idx t]

/-- The embedding matrix's block is the whole of it. -/
theorem iblk_weights (c : Dev nD) (t : Fin cfg0.N) (f : Fin 768) (d : Fin 32) :
    iblk m c 1 t (ix2 f d) = weights m c (ix2 f d) := by
  rw [← entry_weights]
  blk_ext [iblk, idx t]

/-- The code book's block is the whole of it. -/
theorem iblk_codes (c : Dev nD) (t : Fin cfg0.N) (k : Fin 8192) (d : Fin 32) :
    iblk m c 2 t (ix2 k d) = codes m c (ix2 k d) := by
  rw [← entry_codes]
  blk_ext [iblk, idx t]

/-- The squared lengths' block is the whole of them. -/
theorem iblk_lens (c : Dev nD) (t : Fin cfg0.N) (k : Fin 8192) :
    iblk m c 3 t (ix2 0 k) = ∑ d : Fin 32, codes m c (ix2 k d)
      * codes m c (ix2 k d) := by
  rw [← entry_lens]
  blk_ext [iblk, idx t]

/-- The first least position of the row of distances of patch `n` of image `b`. -/
def nearest (x : FVec Ideal S8x3x512x512 .f32) (W : FVec Ideal S768x32 .f32) (cb : FVec Ideal S8192x32 .f32) (b : Fin 8)
    (n : Fin 1024) : Fin 8192 :=
  (exists_isFirstLeast (by decide) (dist x W cb b n)).choose

/-- It is that position. -/
theorem nearest_spec (x : FVec Ideal S8x3x512x512 .f32) (W : FVec Ideal S768x32 .f32) (cb : FVec Ideal S8192x32 .f32)
    (b : Fin 8) (n : Fin 1024) : IsFirstLeast (dist x W cb b n) (nearest x W cb b n) :=
  (exists_isFirstLeast (by decide) (dist x W cb b n)).choose_spec

/-- The kernel's distances at point `t` and row `w * 32 + h` are those of patch `h * 32 + w` of image `t`. -/
theorem blkDist_eq (c : Dev nD) (t : Fin cfg0.N) (b : Fin 8) (hb : b.val = t.val) (h w : Fin 32) (k : Fin 8192) :
    blkDist (iblk m c 0 t) (iblk m c 1 t) (iblk m c 2 t) (iblk m c 3 t) (ix2 ⟨w.val * 32 + h.val, by omega⟩ k)
      = dist (imgs m c) (weights m c)
          (codes m c) b ⟨h.val * 32 + w.val, by omega⟩ k := by
  have e (d : Fin 32) : blkEnc (iblk m c 0 t) (iblk m c 1 t) (ix2 ⟨w.val * 32 + h.val, by omega⟩ d)
      = enc (imgs m c) (weights m c) b
          ⟨h.val * 32 + w.val, by omega⟩ d := by
    rw [blkEnc_apply]
    refine Finset.sum_congr rfl fun f _ => ?_
    rw [iblk_image m c t b hb, iblk_weights]
    have h1 : (w.val * 32 + h.val) % 32 = h.val := by omega
    have h2 : (w.val * 32 + h.val) / 32 = w.val := by omega
    have h3 : (h.val * 32 + w.val) / 32 = h.val := by omega
    have h4 : (h.val * 32 + w.val) % 32 = w.val := by omega
    simp only [h1, h2, h3, h4]
  rw [blkDist_apply]
  simp only [e, iblk_codes, iblk_lens]
  unfold dist
  rw [two_mul_sum]

/-- The number of a patch, from its row and column, is below 1024. -/
theorem patch_lt (r : Fin 256) (w : Fin 32) : r.val % 32 * 32 + w.val < 1024 := by omega

/-- The results as the region lays them out: row `b * 32 + h`, column `w`. -/
def grid (c : Dev nD) : IVec S256x32 32 := fun j => BitVec.ofNat 32
  (nearest (imgs m c) (weights m c) (codes m c) ⟨(j 0).val / 32, Nat.div_lt_of_lt_mul (j 0).isLt⟩
    ⟨(j 0).val % 32 * 32 + (j 1).val, patch_lt (j 0) (j 1)⟩).val

/-- The kernel's output array after the region. -/
theorem final (c : Dev nD) : (dats m 0 c).arrAt 4 cfg0.N = grid m c := by
  refine (dats m 0 c).arrAt_eq_of_covers 4 _ (by decide +kernel) fun t hf y => ?_
  unfold grid
  blk_simp
  rw [after0_4, out_eq]
  obtain ⟨h, w, rfl⟩ : ∃ h w : Fin 32, y = ix2 h w := ⟨y 0, y 1, by funext a; fin_cases a <;> rfl⟩
  have ht : t.val < 8 := t.isLt
  have e4 := (idx t).2.2.2.2
  rw [blkOut_apply (k := nearest (imgs m c) (weights m c) (codes m c) ⟨t.val, ht⟩ ⟨h.val * 32 + w.val, by omega⟩)]
  · have h0 : win0_4.index t 0 = t.val := congrFun e4 0
    have h1 : win0_4.index t 1 = 0 := congrFun e4 1
    have h2 : (t.val * 32 + h.val) / 32 = t.val := by omega
    have h3 : (t.val * 32 + h.val) % 32 = h.val := by omega
    have v0 : ((ix2 h w : S32x32.Idx) 0).val = h.val := rfl
    have v1 : ((ix2 h w : S32x32.Idx) 1).val = w.val := rfl
    simp only [h0, h1, v0, v1, h2, h3, Nat.zero_mul, Nat.zero_add]
  · have hs := nearest_spec (imgs m c) (weights m c) (codes m c) ⟨t.val, ht⟩ ⟨h.val * 32 + w.val, by omega⟩
    rw [funext fun k => blkDist_eq m c t ⟨t.val, ht⟩ rfl h w k]
    exact hs

/-- The results as the program returns them, at image `b` and patch `n`. -/
theorem result_apply (c : Dev nD) (b : Fin 8) (n : Fin 1024) :
    shapeCast S8x1024 (grid m c) shapeCasts_S256x32_S8x1024 (ix2 b n)
      = BitVec.ofNat 32 (nearest (imgs m c) (weights m c) (codes m c) b n).val := by
  pointwise
  have h1 : (b.val * 32 + n.val / 32) / 32 = b.val := by omega
  have h2 : (b.val * 32 + n.val / 32) % 32 * 32 + n.val % 32 = n.val := by omega
  exact congrArg (fun k : Fin 8192 => BitVec.ofNat 32 k.val)
    (congrArg₂ (nearest (imgs m c) (weights m c) (codes m c)) (Fin.ext h1) (Fin.ext h2))

/-- The program returns the reference's indices. -/
theorem result_eq (c : Dev nD) : shapeCast S8x1024 (grid m c) shapeCasts_S256x32_S8x1024
    = refIdx (imgs m c) (weights m c) (codes m c) := by
  funext j
  obtain ⟨b, n, rfl⟩ : ∃ (b : Fin 8) (n : Fin 1024), j = ix2 b n := ⟨j 0, j 1, by funext a; fin_cases a <;> rfl⟩
  exact (result_apply m c b n).trans (refIdx_apply _ _ _ b n _ (nearest_spec _ _ _ b n)).symm

/-- The kernel's run: its three results, its arguments unchanged. -/
theorem kernel_run (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = shapeCast S8x1024 (grid m c) shapeCasts_S256x32_S8x1024
      ∧ r.2.mem ((c.tc : Thread nD τ).loc main_c) = constantI S_ 32 32#32
      ∧ r.2.mem ((c.tc : Thread nD τ).loc main_c_0) = constantI S_ 32 32#32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  run_from run_main m ρ
  · have h : Pipeline.afterTail₀ cfgs (dats m) 0 (V0 m) [hostOps1, hostOps1_1] c main_v0
        = shapeCast S8x1024 (Pipeline.withArrays spec0 c (V0 m c) (fun w => (dats m 0 c).arrAt w cfg0.N)
            (Proc.devRef .tc main_call0_v5)) shapeCasts_S256x32_S8x1024 := rfl
    refine h.trans (congrArg (fun x => shapeCast S8x1024 x shapeCasts_S256x32_S8x1024) ?_)
    exact (Pipeline.withArrays_arr spec0 (by decide) c (V0 m c) (fun w => (dats m 0 c).arrAt w cfg0.N) 4).trans (final m c)
  · rfl
  · rfl
  · exact W_main_arg1 m (dats m) c
  · exact W_main_arg2 m (dats m) c

end Cert.Nearest

end
-- ==== Proof.RefRun.lean ====
/-
  The reference's run: its three results in the terms its operations compose, its arguments unchanged.
-/
module

public import proofs.«01_k».proof.Proof.RefValue
public import proofs.«01_k».proof.Proof.Gen.ReferenceIdeal
public import Idealize.ShloMosaic.Lib.Quiescent
public import Idealize.ShloMosaic.Lib.Claim
public import Idealize.ShloMosaic.Lib.Pipeline.ValueKit

@[expose] public section

set_option maxRecDepth 16384

noncomputable section

namespace Cert.Nearest

open Idealize.ShloMosaic Idealize.ShloMosaic.TcCoe Idealize.SL.Sem Cert.ReferenceIdeal Cert.ReferenceIdeal.Gen

variable (m : (ℓ : Loc nD τ sig) → Buf (Elt Ideal) ℓ) (ρ : Dev nD → PrngReg)

/-- The reference's run: its three results, its arguments unchanged, every counter back at zero. -/
theorem ref_run : θ_run (defs (F := Ideal)) (onTc (τ := τ) (main (F := Ideal))) ⟨m, fun _ => 0, ρ⟩ fun r =>
    (∀ c : Dev nD,
      r.2.mem ((c.tc : Thread nD τ).loc main_v18)
        = refIdx (m ((c.tc : Thread nD τ).loc main_arg0)) (m ((c.tc : Thread nD τ).loc main_arg1))
            (m ((c.tc : Thread nD τ).loc main_arg2))
      ∧ r.2.mem ((c.tc : Thread nD τ).loc main_c) = constantI S_ 32 32#32
      ∧ r.2.mem ((c.tc : Thread nD τ).loc main_c_2) = constantI S_ 32 32#32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0 := by
  hlo_run
  · intro c
    refine ⟨?_, trivial, trivial, trivial, trivial, trivial⟩
    rfl
  · exact sem_eq_zero_of_no_sems (by decide) _

end Cert.Nearest

end
-- ==== Proof.lean ====
/-
  The claims: the kernel, its idealization and the reference run to the end and leave their arguments unchanged, and
  at the ideal instance the kernel's three results are the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_nearest_is_unique
public import Idealize.ShloMosaic.Adequacy
public import Idealize.ShloMosaic.Init
public import Idealize.ShloMosaic.Lib.Claim
public import proofs.«01_k».proof.Proof.Array
public import proofs.«01_k».proof.Proof.RefRun

@[expose] public section

noncomputable section

namespace Cert.Proof

open Idealize.ShloMosaic Idealize.ShloMosaic.TcCoe Idealize.SL.Sem

/-- The reference runs to the end, leaves its arguments unchanged and every counter at zero. -/
theorem frame_reference : quiescent_ReferenceIdeal := fun m g _ =>
  (θ_run Cert.ReferenceIdeal.defs _ _).mono (fun _ h => ⟨fun c => (h.1 c).2.2.2, h.2⟩) (Cert.Nearest.ref_run m g)

/-- The same where the nearest code is unique. -/
theorem frame_reference_pre : quiescent_ReferenceIdeal_pre_nearest_is_unique := fun m g _ =>
  (θ_run Cert.ReferenceIdeal.defs _ _).mono (fun _ h => ⟨fun c => (h.1 c).2.2.2, h.2⟩) (Cert.Nearest.ref_run m g)

/-- At the ideal instance the kernel's three results are the reference's. -/
theorem values : algebraic_KernelIdeal_ReferenceIdeal := by
  intro m g m' g' _ hagree
  refine ⟨fun c => shapeCast Cert.KernelIdeal.S8x1024 (Cert.Nearest.grid m c)
      Cert.KernelIdeal.Facts₀.shapeCasts_S256x32_S8x1024,
    fun _ => constantI Cert.KernelIdeal.S_ 32 32#32, fun _ => constantI Cert.KernelIdeal.S_ 32 32#32,
    Cert.Nearest.kernel_run m g, ?_⟩
  refine (θ_run Cert.ReferenceIdeal.defs _ _).mono (fun _ h c => ?_) (Cert.Nearest.ref_run m' g')
  obtain ⟨h0, h⟩ := h.1 c
  refine ⟨h0.trans ?_, h⟩
  rw [(hagree c).1, (hagree c).2.1, (hagree c).2.2]
  exact (Cert.Nearest.result_eq m c).symm

/-- Everything claimed. -/
theorem claim : Cert.Claim :=
  ⟨Cert.Kernel.Gen.facts, Cert.KernelIdeal.Gen.facts, Cert.ReferenceIdeal.Gen.facts, Cert.Pre_nearest_is_unique.Gen.facts,
    fun m g _ => Cert.Kernel.Gen.frame m g, fun m g _ => Cert.Kernel.Gen.frame m g,
    fun m g _ => Cert.KernelIdeal.Gen.frame m g, frame_reference, frame_reference_pre, trivial, values⟩

end Cert.Proof

end
